-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x1792 : Shape := ⟨3, ![4, 1024, 1792]⟩
abbrev S4x1024x1 : Shape := ⟨3, ![4, 1024, 1]⟩
abbrev S1792x4096 : Shape := ⟨2, ![1792, 4096]⟩
abbrev S4096 : Shape := ⟨1, ![4096]⟩
abbrev S4x1024x4096 : Shape := ⟨3, ![4, 1024, 4096]⟩
abbrev S4096x1792 : Shape := ⟨2, ![4096, 1792]⟩
abbrev S1x4096 : Shape := ⟨2, ![1, 4096]⟩
abbrev S4096x4096 : Shape := ⟨2, ![4096, 4096]⟩
abbrev S256x1792 : Shape := ⟨2, ![256, 1792]⟩
abbrev S1x256 : Shape := ⟨2, ![1, 256]⟩
abbrev S256x4096 : Shape := ⟨2, ![256, 4096]⟩
abbrev S8x256 : Shape := ⟨2, ![8, 256]⟩
abbrev S256x8 : Shape := ⟨2, ![256, 8]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x1024x1792, .fp8e4m3⟩
  | .hbm, ⟨1, _⟩ => ⟨S4x1024x1, .f32⟩
  | .hbm, ⟨2, _⟩ => ⟨S1792x4096, .fp8e4m3⟩
  | .hbm, ⟨3, _⟩ => ⟨S4096, .f32⟩
  | .hbm, ⟨4, _⟩ => ⟨S4x1024x4096, .bf16⟩
  | .hbm, ⟨5, _⟩ => ⟨S4096x1792, .fp8e4m3⟩
  | .hbm, ⟨6, _⟩ => ⟨S1x4096, .f32⟩
  | .hbm, ⟨7, _⟩ => ⟨S1x4096, .f32⟩
  | .hbm, ⟨8, _⟩ => ⟨S4096x4096, .bf16⟩
  | .hbm, ⟨9, _⟩ => ⟨S4096x4096, .bf16⟩
  | .hbm, ⟨10, _⟩ => ⟨S4x1024x4096, .bf16⟩
  | .local _ .vmem, ⟨0, _⟩ => ⟨S256x1792, .fp8e4m3⟩
  | .local _ .vmem, ⟨1, _⟩ => ⟨S256x1792, .fp8e4m3⟩
  | .local _ .vmem, ⟨2, _⟩ => ⟨S1x256, .f32⟩
  | .local _ .vmem, ⟨3, _⟩ => ⟨S1x256, .f32⟩
  | .local _ .vmem, ⟨4, _⟩ => ⟨S1792x4096, .fp8e4m3⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | _, _ => ⟨S4x1024x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x1024x1792 : Shape := ⟨3, ![4, 1024, 1792]⟩
abbrev S4x1024x1 : Shape := ⟨3, ![4, 1024, 1]⟩
abbrev S1792x4096 : Shape := ⟨2, ![1792, 4096]⟩
abbrev S4096 : Shape := ⟨1, ![4096]⟩
abbrev S4x1024x4096 : Shape := ⟨3, ![4, 1024, 4096]⟩
abbrev S1x1x4096 : Shape := ⟨3, ![1, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S4x1024x1792, .fp8e4m3⟩
  | .hbm, ⟨1, _⟩ => ⟨S4x1024x1, .f32⟩
  | .hbm, ⟨2, _⟩ => ⟨S1792x4096, .fp8e4m3⟩
  | .hbm, ⟨3, _⟩ => ⟨S4096, .f32⟩
  | .hbm, ⟨4, _⟩ => ⟨S4x1024x4096, .bf16⟩
  | .hbm, ⟨5, _⟩ => ⟨S4x1024x4096, .bf16⟩
  | .local _ .vmem, ⟨0, _⟩ => ⟨S4x1024x1792, .fp8e4m3⟩
  | .local _ .vmem, ⟨1, _⟩ => ⟨S4x1024x1, .f32⟩
  | .local _ .vmem, ⟨2, _⟩ => ⟨S1792x4096, .fp8e4m3⟩
  | .local _ .vmem, ⟨3, _⟩ => ⟨S4096, .f32⟩
  | .local _ .vmem, ⟨4, _⟩ => ⟨S4x1024x4096, .bf16⟩
  | .local _ .vmem, ⟨5, _⟩ => ⟨S4x1024x4096, .bf16⟩
  | _, _ => ⟨S4x1024x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1024x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  Hand-written, untrusted. THE MATHEMATICS of the scaled down-projection with residual, as plain functions of the five argument
  arrays over the extended reals, in the two layouts in which it occurs: by batch and position (`down`, the layout of the result
  and of the reference), and with batch and position flattened to one row axis of 4096 (`flat`, the layout in which the kernel
  works). `flat_eq_down` says that they are the same function.
-/
module

public import proofs.«01_k».proof.Defs
public import Idealize.ShloMosaic.Lib.Pointwise.Tactic
public import Idealize.ShloMosaic.Lib.Pointwise.Contract
public import Idealize.ShloMosaic.Lib.Pipeline.Value

@[expose] public section

noncomputable section

namespace Cert.Proof.Spec

open Idealize.ShloMosaic Idealize.SL.Sem
open Cert.KernelIdeal

/-- The scaled down-projection with residual at batch `j 0`, position `j 1`, column `j 2`: the 1792-term product of the
    activations by the weights, times the position's scale, times the column's scale, plus the residual. -/
def down (x : Vec Ideal S4x1024x1792 .fp8e4m3) (xs : Vec Ideal S4x1024x1 .f32) (w : Vec Ideal S1792x4096 .fp8e4m3)
    (ws : Vec Ideal S4096 .f32) (res : Vec Ideal S4x1024x4096 .bf16) : Vec Ideal S4x1024x4096 .bf16 := fun j =>
  (∑ k : Fin 1792, x (ix3 (j 0 : Fin 4) (j 1 : Fin 1024) k) * w (ix2 k (j 2 : Fin 4096)))
    * xs (ix3 (j 0 : Fin 4) (j 1 : Fin 1024) (0 : Fin 1)) * ws (ix1 (j 2 : Fin 4096)) + res j

/-- The same on flattened operands, at row `i 0` and column `i 1`: the row scales lie along one row of 4096. -/
def flat (x : Vec Ideal S4096x1792 .fp8e4m3) (xs : Vec Ideal S1x4096 .f32) (w : Vec Ideal S1792x4096 .fp8e4m3)
    (ws : Vec Ideal S1x4096 .f32) (res : Vec Ideal S4096x4096 .bf16) : Vec Ideal S4096x4096 .bf16 := fun i =>
  (∑ k : Fin 1792, x (ix2 (i 0 : Fin 4096) k) * w (ix2 k (i 1 : Fin 4096)))
    * xs (ix2 (0 : Fin 1) (i 0 : Fin 4096)) * ws (ix2 (0 : Fin 1) (i 1 : Fin 4096)) + res i

/-- Flattening the operands, computing on the flattened arrays and unflattening the result is computing directly: position `s`
    of batch `b` is row `1024 b + s` of every flattened operand. -/
theorem flat_eq_down (x : Vec Ideal S4x1024x1792 .fp8e4m3) (xs : Vec Ideal S4x1024x1 .f32) (w : Vec Ideal S1792x4096 .fp8e4m3)
    (ws : Vec Ideal S4096 .f32) (res : Vec Ideal S4x1024x4096 .bf16)
    (hx : S4x1024x1792.ShapeCasts S4096x1792) (hxs : S4x1024x1.ShapeCasts S1x4096) (hws : S4096.ShapeCasts S1x4096)
    (hres : S4x1024x4096.ShapeCasts S4096x4096) (hy : S4096x4096.ShapeCasts S4x1024x4096) :
    shapeCast S4x1024x4096 (flat (shapeCast S4096x1792 x hx) (shapeCast S1x4096 xs hxs) w (shapeCast S1x4096 ws hws)
        (shapeCast S4096x4096 res hres)) hy
      = down x xs w ws res := by
  funext j
  obtain ⟨b, s, n, rfl⟩ : ∃ (b : Fin 4) (s : Fin 1024) (n : Fin 4096), j = ix3 b s n := ⟨j 0, j 1, j 2, eq_ix3 j⟩
  have hb := b.isLt
  have hs := s.isLt
  have hR : b.val * 1024 + s.val < 4096 := by omega
  rw [shapeCast_apply _ hy (ix3 b s n) (ix2 (⟨b.val * 1024 + s.val, hR⟩ : Fin 4096) n)
    (by rw [Shape.rowMajor_val_two, Shape.rowMajor_val_three]; rfl)]
  have e0 (k : Fin 1792) : shapeCast S4096x1792 x hx (ix2 (⟨b.val * 1024 + s.val, hR⟩ : Fin 4096) k) = x (ix3 b s k) :=
    shapeCast_apply x hx _ _ (by rw [Shape.rowMajor_val_two, Shape.rowMajor_val_three]; rfl)
  have e1 : shapeCast S1x4096 xs hxs (ix2 (0 : Fin 1) (⟨b.val * 1024 + s.val, hR⟩ : Fin 4096)) = xs (ix3 b s (0 : Fin 1)) :=
    shapeCast_apply xs hxs _ _ (by
      rw [Shape.rowMajor_val_two, Shape.rowMajor_val_three]
      show (b.val * 1024 + s.val) * 1 + 0 = 0 * 4096 + (b.val * 1024 + s.val)
      omega)
  have e2 : shapeCast S1x4096 ws hws (ix2 (0 : Fin 1) n) = ws (ix1 n) :=
    shapeCast_apply ws hws _ _ (by
      rw [Shape.rowMajor_val_two, Shape.rowMajor_val_one]
      show n.val = 0 * 4096 + n.val
      omega)
  have e3 : shapeCast S4096x4096 res hres (ix2 (⟨b.val * 1024 + s.val, hR⟩ : Fin 4096) n) = res (ix3 b s n) :=
    shapeCast_apply res hres _ _ (by rw [Shape.rowMajor_val_two, Shape.rowMajor_val_three]; rfl)
  show (∑ k : Fin 1792, shapeCast S4096x1792 x hx (ix2 (⟨b.val * 1024 + s.val, hR⟩ : Fin 4096) k) * w (ix2 k n))
      * shapeCast S1x4096 xs hxs (ix2 (0 : Fin 1) (⟨b.val * 1024 + s.val, hR⟩ : Fin 4096))
      * shapeCast S1x4096 ws hws (ix2 (0 : Fin 1) n) + shapeCast S4096x4096 res hres (ix2 (⟨b.val * 1024 + s.val, hR⟩ : Fin 4096) n)
    = (∑ k : Fin 1792, x (ix3 b s k) * w (ix2 k n)) * xs (ix3 b s (0 : Fin 1)) * ws (ix1 n) + res (ix3 b s n)
  rw [e1, e2, e3]
  simp only [e0]

end Cert.Proof.Spec

end
-- ==== Proof.Block.lean ====
/-
  Hand-written, untrusted. WHAT ONE GRID POINT COMPUTES, read at an index over the extended reals: a 1792-term sum of products, times a row scale, times a column scale, plus the residual.
-/
module

public import proofs.«01_k».proof.Proof.Gen.KernelIdeal.Skeleton
public import Idealize.ShloMosaic.Lib.Pointwise.Tactic
public import Idealize.ShloMosaic.Lib.Pointwise.Contract
public import Idealize.ShloMosaic.Lib.Pipeline.Value

@[expose] public section

noncomputable section

namespace Cert.Proof.Block

open Idealize.ShloMosaic Idealize.SL.Sem

/-- One block of the kernel: row `r`, column `n` of what a grid point stores is the product of row `r` of the activation block
    by column `n` of the weights, times the row's scale (the `r`-th entry of the point's 1 x 256 strip of row scales), times the
    column's scale, plus the residual block's element. -/
theorem kernel_block (x : Vec Ideal Cert.KernelIdeal.S256x1792 .fp8e4m3) (w : Vec Ideal Cert.KernelIdeal.S1792x4096 .fp8e4m3)
    (xs : Vec Ideal Cert.KernelIdeal.S1x256 .f32) (ws : Vec Ideal Cert.KernelIdeal.S1x4096 .f32)
    (res : Vec Ideal Cert.KernelIdeal.S256x4096 .bf16) (r : Fin 256) (n : Fin 4096) :
    Cert.KernelIdeal.Gen.k0_pay1 (F := Ideal) x w xs ws res (ix2 r n)
      = (∑ k : Fin 1792, x (ix2 r k) * w (ix2 k n)) * xs (ix2 0 r) * ws (ix2 0 n) + res (ix2 r n) := by
  unfold Cert.KernelIdeal.Gen.k0_pay1
  pointwise
  simp only [shapeCast_self]

end Cert.Proof.Block

end
-- ==== Proof.KernelValue.lean ====
/-
  Hand-written, untrusted. WHAT THE KERNEL'S ARRAYS HOLD: its 16 grid points each write one block of 256 rows of the flattened
  result, the blocks tile the array, so the array ends at `Spec.flat` of the flattened operands; the line after the grid reshapes
  it, so the result array ends at `Spec.down` of the arguments.
-/
module

public import proofs.«01_k».proof.Proof.Spec
public import proofs.«01_k».proof.Proof.Block
public import proofs.«01_k».proof.Proof.Gen.KernelIdeal.Frame
public import Idealize.ShloMosaic.Lib.Claim

@[expose] public section

noncomputable section

namespace Cert.Proof.KernelValue

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- `Spec.flat` of the five arrays the grid reads, as the grid finds them. -/
abbrev flatOf (c : Dev nD) : Buf (Elt Ideal) ((c : Thread nD τ).loc main_v4) :=
  Spec.flat (V m c main_v0) (V m c main_v1) (V m c main_arg2) (V m c main_v2) (V m c main_v3)

theorem hz : (![0, 0] : Fin 2 → Nat) = fun _ => 0 := funext fun a => by fin_cases a <;> rfl

/-- The blocks' positions at point `t`: the row blocks of the activations, of the residual and of the result start at row
    `256 t`, the strip of row scales at column `256 t`; weights and column scales are taken whole. -/
theorem starts (t : Fin cfg0.N) :
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 := by
  revert t; decide +kernel

theorem row_lt (t : Fin cfg0.N) (r : Fin 256) : t.val * 256 + r.val < 4096 := by
  have h : t.val < 16 := lt_of_lt_of_eq t.isLt N_0
  have := r.isLt
  omega

/-- An index of a matrix with the coordinates `a`, `b` is `ix2 a b`. -/
theorem ix2_of {p q : Nat} {f : (⟨2, ![p, q]⟩ : Shape).Idx} {a : Fin p} {b : Fin q} (h0 : (f 0).val = a.val)
    (h1 : (f 1).val = b.val) : f = ix2 a b :=
  (eq_ix2 f).trans (congrArg₂ ix2 (Fin.ext h0) (Fin.ext h1))

/-- Row `r` of the activation block of point `t` is row `256 t + r` of the flattened activations. -/
theorem read_x (c : Dev nD) (t : Fin cfg0.N) (r : Fin 256) (k : Fin 1792) :
    iblk m c 0 t (ix2 r k) = V m c main_v0 (ix2 (⟨t.val * 256 + r.val, row_lt t r⟩ : Fin 4096) k) := by
  obtain ⟨e0, e1, -⟩ := starts t
  refine congrArg (V m c main_v0) (ix2_of (f := (win0_0.rect t).emb (ix2 r k)) ?_ ?_)
  · show win0_0.index t (0 : Fin 2) * 256 + 1 * r.val = t.val * 256 + r.val
    rw [e0]; omega
  · show win0_0.index t (1 : Fin 2) * 1792 + 1 * k.val = k.val
    rw [e1]; omega

/-- Entry `r` of the strip of row scales of point `t` is the scale of row `256 t + r`. -/
theorem read_xs (c : Dev nD) (t : Fin cfg0.N) (r : Fin 256) :
    iblk m c 1 t (ix2 (0 : Fin 1) r) = V m c main_v1 (ix2 (0 : Fin 1) (⟨t.val * 256 + r.val, row_lt t r⟩ : Fin 4096)) := by
  obtain ⟨-, -, e0, e1, -⟩ := starts t
  refine congrArg (V m c main_v1) (ix2_of (f := (win0_1.rect t).emb (ix2 (0 : Fin 1) r)) ?_ ?_)
  · show win0_1.index t (0 : Fin 2) * 1 + 1 * 0 = 0
    rw [e0]
  · show win0_1.index t (1 : Fin 2) * 256 + 1 * r.val = t.val * 256 + r.val
    rw [e1]; omega

/-- Every point's block of the weights is the whole array, -/
theorem read_w (c : Dev nD) (t : Fin cfg0.N) (k : Fin 1792) (n : Fin 4096) :
    iblk m c 2 t (ix2 k n) = V m c main_arg2 (ix2 k n) := by
  obtain ⟨-, -, -, -, e0, e1, -⟩ := starts t
  refine congrArg (V m c main_arg2) (ix2_of (f := (win0_2.rect t).emb (ix2 k n)) ?_ ?_)
  · show win0_2.index t (0 : Fin 2) * 1792 + 1 * k.val = k.val
    rw [e0]; omega
  · show win0_2.index t (1 : Fin 2) * 4096 + 1 * n.val = n.val
    rw [e1]; omega

/-- and so is its block of the column scales. -/
theorem read_ws (c : Dev nD) (t : Fin cfg0.N) (n : Fin 4096) :
    iblk m c 3 t (ix2 (0 : Fin 1) n) = V m c main_v2 (ix2 (0 : Fin 1) n) := by
  obtain ⟨-, -, -, -, -, -, e0, e1, -⟩ := starts t
  refine congrArg (V m c main_v2) (ix2_of (f := (win0_3.rect t).emb (ix2 (0 : Fin 1) n)) ?_ ?_)
  · show win0_3.index t (0 : Fin 2) * 1 + 1 * 0 = 0
    rw [e0]
  · show win0_3.index t (1 : Fin 2) * 4096 + 1 * n.val = n.val
    rw [e1]; omega

/-- Row `r` of the residual block of point `t` is row `256 t + r` of the flattened residual. -/
theorem read_res (c : Dev nD) (t : Fin cfg0.N) (r : Fin 256) (n : Fin 4096) :
    iblk m c 4 t (ix2 r n) = V m c main_v3 (ix2 (⟨t.val * 256 + r.val, row_lt t r⟩ : Fin 4096) n) := by
  obtain ⟨-, -, -, -, -, -, -, -, e0, e1, -⟩ := starts t
  refine congrArg (V m c main_v3) (ix2_of (f := (win0_4.rect t).emb (ix2 r n)) ?_ ?_)
  · show win0_4.index t (0 : Fin 2) * 256 + 1 * r.val = t.val * 256 + r.val
    rw [e0]; omega
  · show win0_4.index t (1 : Fin 2) * 4096 + 1 * n.val = n.val
    rw [e1]; omega

/-- Row `r` of the result block of point `t` is row `256 t + r` of the flattened result. -/
theorem emb_out (t : Fin cfg0.N) (r : Fin 256) (n : Fin 4096) :
    (win0_5.rect t).emb (ix2 r n) = ix2 (⟨t.val * 256 + r.val, row_lt t r⟩ : Fin 4096) n := by
  obtain ⟨-, -, -, -, -, -, -, -, -, -, e0, e1⟩ := starts t
  refine ix2_of (f := (win0_5.rect t).emb (ix2 r n)) ?_ ?_
  · show win0_5.index t (0 : Fin 2) * 256 + 1 * r.val = t.val * 256 + r.val
    rw [e0]; omega
  · show win0_5.index t (1 : Fin 2) * 4096 + 1 * n.val = n.val
    rw [e1]; omega

/-- What point `t` writes back is its block of rows of `Spec.flat`: at each of its elements, the block's value
    (`Block.kernel_block`) with every operand read where its block lies. -/
theorem flushed_eq (c : Dev nD) (t : Fin cfg0.N) :
    (dats m 0 c).flushed 5 t = (win0_5.blk t).view.read (Elt Ideal) (flatOf m c) := by
  show (cfg0.win 5).cut (grid0.coords t) ((dats m 0 c).after 5 t) = _
  rw [after0_5]
  unfold out0_5
  rw [View.canon_unit_zero hz, View.ld_unit_zero hz, View.ld_unit_zero hz, View.ld_unit_zero hz, View.ld_unit_zero hz,
    View.ld_unit_zero hz]
  funext j
  obtain ⟨r, n, rfl⟩ : ∃ (r : Fin 256) (n : Fin 4096), j = ix2 r n := ⟨j 0, j 1, eq_ix2 j⟩
  show k0_pay1 (F := Ideal) (iblk m c 0 t) (iblk m c 2 t) (iblk m c 1 t) (iblk m c 3 t) (iblk m c 4 t) (ix2 r n)
    = flatOf m c ((win0_5.rect t).emb (ix2 r n))
  refine (Block.kernel_block _ _ _ _ _ r n).trans ?_
  rw [emb_out, read_xs, read_ws, read_res]
  simp only [read_x, read_w]
  rfl

/-- An index of the flattened result is in point `t`'s block iff its row is among the 256 rows from `256 t` on. -/
theorem mem_blk (t : Fin cfg0.N) (i : S4096x4096.Idx) :
    i ∈ ((cfg0.win 5).blk t).view.set ↔ t.val * 256 ≤ (i 0 : Nat) ∧ (i 0 : Nat) < t.val * 256 + 256 := by
  show i ∈ ((View.whole main_v4).slice (win0_5.rect t)).set ↔ _
  rw [View.set_slice_whole, Rect.mem_set_unit]
  have h1 : (i 1 : Nat) < 4096 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 4096 := by
    revert t; decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

/-- The blocks tile the flattened result: row `R` is in block `R / 256`. -/
theorem cover (i : S4096x4096.Idx) :
    ∃ t : Fin cfg0.N, (cfg0.win 5).flush t = true ∧ i ∈ ((cfg0.win 5).blk t).view.set := by
  have h0 : (i 0 : Nat) < 4096 := (i 0).isLt
  have hN : cfg0.N = 16 := N_0
  refine ⟨⟨(i 0 : Nat) / 256, by omega⟩, flush0_5 _, ?_⟩
  rw [mem_blk]
  dsimp only
  omega

/-- So the array the grid writes ends at `Spec.flat` of the arrays it reads. -/
theorem final (c : Dev nD) : (dats m 0 c).arrAt 5 cfg0.N = flatOf m c :=
  (dats m 0 c).arrAt_eq_of_cover 5 (flatOf m c) (fun t _ => flushed_eq m c t) cover

/-- The arrays the grid reads are the arguments reshaped, so what it writes is `Spec.flat` of the reshaped arguments. -/
theorem flatOf_eq (c : Dev nD) :
    flatOf m c = Spec.flat
      (shapeCast S4096x1792 (m ((c : Thread nD τ).loc main_arg0)) shapeCasts_S4x1024x1792_S4096x1792)
      (shapeCast S1x4096 (m ((c : Thread nD τ).loc main_arg1)) shapeCasts_S4x1024x1_S1x4096)
      (m ((c : Thread nD τ).loc main_arg2))
      (shapeCast S1x4096 (m ((c : Thread nD τ).loc main_arg3)) shapeCasts_S4096_S1x4096)
      (shapeCast S4096x4096 (m ((c : Thread nD τ).loc main_arg4)) shapeCasts_S4x1024x4096_S4096x4096) := by
  unfold flatOf
  entry_read
  rfl

/-- The line after the grid leaves in the result array the grid's array reshaped. -/
theorem tail_eq (c : Dev nD) :
    Pipeline.afterTail₀ cfgs (dats m) 0 (V0 m) [hostOps1] c main_v5
      = shapeCast S4x1024x4096 ((dats m 0 c).arrAt 5 cfg0.N) shapeCasts_S4096x4096_S4x1024x4096 := by
  unfold Pipeline.afterTail₀
  simp only [List.flatten_cons, List.flatten_nil, List.append_nil, StableHlo.after_cons, StableHlo.after_nil]
  rw [StableHlo.reshape_result]
  funext i
  exact congrArg (fun x => shapeCast S4x1024x4096 x shapeCasts_S4096x4096_S4x1024x4096 i)
    (Pipeline.withArrays_arr spec0 (by decide) c (V0 m c) (fun w => (dats m 0 c).arrAt w cfg0.N) 5)

/-- Every run of the kernel ends with its result array at `Spec.down` of its arguments, and the arguments unchanged. -/
theorem run : θ_run (defs (F := Ideal)) (onTc (τ := τ) (main (F := Ideal))) ⟨m, fun _ => 0, ρ⟩ fun r => ∀ c : Dev nD,
      r.2.mem ((c : Thread nD τ).loc main_v5)
        = Spec.down (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h c).2 main_v5 (Pipeline.mem_restRefs_of main_v5 (by decide) (by decide))).trans
        ((tail_eq m c).trans (by rw [final, flatOf_eq]; exact Spec.flat_eq_down ..)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proof.KernelValue

end
-- ==== Proof.RefValue.lean ====
/-
  Hand-written, untrusted. THE REFERENCE'S VALUE: what the reference program writes to its result array is the scaled
  down-projection with residual (`Spec.down`) of its five arguments.
-/
module

public import proofs.«01_k».proof.Proof.Spec
public import proofs.«01_k».proof.Proof.Gen.ReferenceIdeal.Value

@[expose] public section

noncomputable section

namespace Cert.Proof.RefValue

open Idealize.ShloMosaic Idealize.ShloMosaic.TcCoe Idealize.SL.Sem
open Cert.ReferenceIdeal

/-- The reference's one payload is `Spec.down`: over the extended reals its casts are the identity, its product into a zero
    accumulator is the sum over the 1792 inner indices, and its two broadcasts read the scale of the position and of the column. -/
theorem payload_eq (x : Vec Ideal S4x1024x1792 .fp8e4m3) (w : Vec Ideal S1792x4096 .fp8e4m3) (xs : Vec Ideal S4x1024x1 .f32)
    (ws : Vec Ideal S4096 .f32) (res : Vec Ideal S4x1024x4096 .bf16) :
    Gen.k0_pay1 (F := Ideal) x w xs ws res = Spec.down x xs w ws res := by
  funext j
  obtain ⟨b, s, n, rfl⟩ : ∃ (b : Fin 4) (s : Fin 1024) (n : Fin 4096), j = ix3 b s n := ⟨j 0, j 1, j 2, eq_ix3 j⟩
  show _ = (∑ k : Fin 1792, x (ix3 b s k) * w (ix2 k n)) * xs (ix3 b s (0 : Fin 1)) * ws (ix1 n) + res (ix3 b s n)
  unfold Gen.k0_pay1
  pointwise
  rw [shapeCast_apply ws _ (ix3 0 0 n) (ix1 n) (by
    rw [Shape.rowMajor_val_three, Shape.rowMajor_val_one]
    show n.val = (0 * 1 + 0) * 4096 + n.val
    omega)]

/-- Every run of the reference ends with its result array at `Spec.down` of its arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0)
        = Spec.down (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (payload_eq _ _ _ _ _), (h c).2⟩)
    (Cert.ReferenceIdeal.Value.run (F := Ideal) m ρ)

end Cert.Proof.RefValue

end
-- ==== Proof.lean ====
/-
  Hand-written, untrusted. THE PROOF of `Cert.Claim` (Defs.lean): the three programs terminate without fault and leave their
  arguments unchanged, the ideal program is the kernel read over the extended reals, and over the extended reals the kernel and
  the reference end with the same result array. The frames are generated; the value of the kernel is `KernelValue.run`, that of
  the reference `RefValue.run`, and both are `Spec.down` of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, by
    intro m ρ m' ρ' _ hargs
    refine ⟨_, KernelValue.run m ρ, ?_⟩
    refine (θ_run Cert.ReferenceIdeal.defs _ _).mono (fun _ h c => ⟨(h c).1.trans ?_, (h c).2⟩) (RefValue.run m' ρ')
    obtain ⟨h0, h1, h2, h3, h4⟩ := hargs c
    rw [h0, h1, h2, h3, h4]⟩

end Cert.Proof

end
